-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  IdealRules.named_const.Statement Cert.KernelIdeal.κ "root_half" .f32 0x3F3504F3#32 (((Real.sqrt 2)⁻¹ : ℝ) : EReal)

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v46) = v0 c
          ∧ r.2.mem ((c.tc : Thread Cert.ReferenceIdeal.nD Cert.ReferenceIdeal.τ).loc Cert.ReferenceIdeal.main_cst_8) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S16384x2048 : Shape := ⟨2, ![16384, 2048]⟩
abbrev S256x2048 : Shape := ⟨2, ![256, 2048]⟩
abbrev S256 : Shape := ⟨1, ![256]⟩
abbrev S64x256 : Shape := ⟨2, ![64, 256]⟩
abbrev S64 : Shape := ⟨1, ![64]⟩
abbrev S_ : Shape := ⟨0, ![]⟩

class Facts : Prop where
  bcast_S_S16384x2048 : S_.BroadcastsInDim S16384x2048 (![] : Fin 0 → Fin S16384x2048.rank)
  bcast_S_S256x2048 : S_.BroadcastsInDim S256x2048 (![] : Fin 0 → Fin S256x2048.rank)
  bcast_S_S256 : S_.BroadcastsInDim S256 (![] : Fin 0 → Fin S256.rank)
  bcast_S_S64x256 : S_.BroadcastsInDim S64x256 (![] : Fin 0 → Fin S64x256.rank)
  bcast_S_S64 : S_.BroadcastsInDim S64 (![] : Fin 0 → Fin S64.rank)

variable [Facts]

def fn_part1 {F : FTy → Type} [FloatOps F] (main_arg3 : FVec F S64x256 .f32) (main_arg4 : FVec F S64 .f32) (main_v4 : IVec S16384x2048 1) (main_v9 : IVec S256x2048 1) (main_v14 : IVec S256 1) (main_v16 : IVec S64x256 1) : IVec S16384x2048 1 × IVec S256x2048 1 × IVec S256 1 × IVec S64x256 1 × IVec S64 1 :=
  let main_cst_6 : FVec F S_ .f32 := constant S_ .f32 0x7F800000#32
  let main_v17 : FVec F S64x256 .f32 := broadcastInDim S64x256 ![] bcast_S_S64x256 main_cst_6
  let main_v18 : IVec S64x256 1 := cmpf .olt main_arg3 main_v17
  let main_v19 : IVec S64x256 1 := andi main_v16 main_v18
  let main_cst_7 : FVec F S_ .f32 := constant S_ .f32 0xFF800000#32
  let main_v20 : FVec F S64 .f32 := broadcastInDim S64 ![] bcast_S_S64 main_cst_7
  let main_v21 : IVec S64 1 := cmpf .ogt main_arg4 main_v20
  let main_cst_8 : FVec F S_ .f32 := constant S_ .f32 0x7F800000#32
  let main_v22 : FVec F S64 .f32 := broadcastInDim S64 ![] bcast_S_S64 main_cst_8
  let main_v23 : IVec S64 1 := cmpf .olt main_arg4 main_v22
  let main_v24 : IVec S64 1 := andi main_v21 main_v23
  (main_v4, main_v9, main_v14, main_v19, main_v24)

def fn {F : FTy → Type} [FloatOps F] (main_arg0 : FVec F S16384x2048 .f32) (main_arg1 : FVec F S256x2048 .f32) (main_arg2 : FVec F S256 .f32) (main_arg3 : FVec F S64x256 .f32) (main_arg4 : FVec F S64 .f32) : IVec S16384x2048 1 × IVec S256x2048 1 × IVec S256 1 × IVec S64x256 1 × IVec S64 1 :=
  let main_cst : FVec F S_ .f32 := constant S_ .f32 0xFF800000#32
  let main_v0 : FVec F S16384x2048 .f32 := broadcastInDim S16384x2048 ![] bcast_S_S16384x2048 main_cst
  let main_v1 : IVec S16384x2048 1 := cmpf .ogt main_arg0 main_v0
  let main_cst_0 : FVec F S_ .f32 := constant S_ .f32 0x7F800000#32
  let main_v2 : FVec F S16384x2048 .f32 := broadcastInDim S16384x2048 ![] bcast_S_S16384x2048 main_cst_0
  let main_v3 : IVec S16384x2048 1 := cmpf .olt main_arg0 main_v2
  let main_v4 : IVec S16384x2048 1 := andi main_v1 main_v3
  let main_cst_1 : FVec F S_ .f32 := constant S_ .f32 0xFF800000#32
  let main_v5 : FVec F S256x2048 .f32 := broadcastInDim S256x2048 ![] bcast_S_S256x2048 main_cst_1
  let main_v6 : IVec S256x2048 1 := cmpf .ogt main_arg1 main_v5
  let main_cst_2 : FVec F S_ .f32 := constant S_ .f32 0x7F800000#32
  let main_v7 : FVec F S256x2048 .f32 := broadcastInDim S256x2048 ![] bcast_S_S256x2048 main_cst_2
  let main_v8 : IVec S256x2048 1 := cmpf .olt main_arg1 main_v7
  let main_v9 : IVec S256x2048 1 := andi main_v6 main_v8
  let main_cst_3 : FVec F S_ .f32 := constant S_ .f32 0xFF800000#32
  let main_v10 : FVec F S256 .f32 := broadcastInDim S256 ![] bcast_S_S256 main_cst_3
  let main_v11 : IVec S256 1 := cmpf .ogt main_arg2 main_v10
  let main_cst_4 : FVec F S_ .f32 := constant S_ .f32 0x7F800000#32
  let main_v12 : FVec F S256 .f32 := broadcastInDim S256 ![] bcast_S_S256 main_cst_4
  let main_v13 : IVec S256 1 := cmpf .olt main_arg2 main_v12
  let main_v14 : IVec S256 1 := andi main_v11 main_v13
  let main_cst_5 : FVec F S_ .f32 := constant S_ .f32 0xFF800000#32
  let main_v15 : FVec F S64x256 .f32 := broadcastInDim S64x256 ![] bcast_S_S64x256 main_cst_5
  let main_v16 : IVec S64x256 1 := cmpf .ogt main_arg3 main_v15
  fn_part1 (F := F) main_arg3 main_arg4 main_v4 main_v9 main_v14 main_v16
-- ==== Kernel.lean ====
abbrev S16384x2048 : Shape := ⟨2, ![16384, 2048]⟩
abbrev S256x2048 : Shape := ⟨2, ![256, 2048]⟩
abbrev S256 : Shape := ⟨1, ![256]⟩
abbrev S64x256 : Shape := ⟨2, ![64, 256]⟩
abbrev S64 : Shape := ⟨1, ![64]⟩
abbrev S2048x256 : Shape := ⟨2, ![2048, 256]⟩
abbrev S256x64 : Shape := ⟨2, ![256, 64]⟩
abbrev S1x256 : Shape := ⟨2, ![1, 256]⟩
abbrev S1x64 : Shape := ⟨2, ![1, 64]⟩
abbrev S16384x64 : Shape := ⟨2, ![16384, 64]⟩
abbrev S_ : Shape := ⟨0, ![]⟩
abbrev S512x2048 : Shape := ⟨2, ![512, 2048]⟩
abbrev S512x64 : Shape := ⟨2, ![512, 64]⟩
abbrev S512x256 : Shape := ⟨2, ![512, 256]⟩
abbrev S512 : Shape := ⟨1, ![512]⟩
abbrev S512x1 : Shape := ⟨2, ![512, 1]⟩

abbrev nBuf : Space → Nat
  | .hbm => 11
  | .vmem => 8
  | .smem => 0
  | _ => 0

abbrev bufTy : (tb : Table) → Fin (tcTables nBuf tb) → BufTy
  | .hbm, ⟨0, _⟩ => ⟨S16384x2048, .f32⟩
  | .hbm, ⟨1, _⟩ => ⟨S256x2048, .f32⟩
  | .hbm, ⟨2, _⟩ => ⟨S256, .f32⟩
  | .hbm, ⟨3, _⟩ => ⟨S64x256, .f32⟩
  | .hbm, ⟨4, _⟩ => ⟨S64, .f32⟩
  | .hbm, ⟨5, _⟩ => ⟨S2048x256, .f32⟩
  | .hbm, ⟨6, _⟩ => ⟨S256x64, .f32⟩
  | .hbm, ⟨7, _⟩ => ⟨S1x256, .f32⟩
  | .hbm, ⟨8, _⟩ => ⟨S1x64, .f32⟩
  | .hbm, ⟨9, _⟩ => ⟨S16384x64, .f32⟩
  | .hbm, ⟨10, _⟩ => ⟨S_, .f32⟩
  | .local _ .vmem, ⟨0, _⟩ => ⟨S512x2048, .f32⟩
  | .local _ .vmem, ⟨1, _⟩ => ⟨S512x2048, .f32⟩
  | .local _ .vmem, ⟨2, _⟩ => ⟨S2048x256, .f32⟩
  | .local _ .vmem, ⟨3, _⟩ => ⟨S1x256, .f32⟩
  | .local _ .vmem, ⟨4, _⟩ => ⟨S256x64, .f32⟩
  | .local _ .vmem, ⟨5, _⟩ => ⟨S1x64, .f32⟩
  | .local _ .vmem, ⟨6, _⟩ => ⟨S512x64, .f32⟩
  | .local _ .vmem, ⟨7, _⟩ => ⟨S512x64, .f32⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_call0_v0 : Ref sig .tc := ⟨.hbm, 5, rfl⟩
abbrev main_call0_v1 : Ref sig .tc := ⟨.hbm, 6, rfl⟩
abbrev main_call0_v2 : Ref sig .tc := ⟨.hbm, 7, rfl⟩
abbrev main_call0_v3 : Ref sig .tc := ⟨.hbm, 8, rfl⟩
abbrev main_v0_0 : Ref sig .tc := ⟨.hbm, 9, rfl⟩
abbrev main_v0_1 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== KernelIdeal.lean ====
variable {F : FTy → Type} [FloatOps F] [Named F]
def κ : String → Option EReal := fun
  | "root_half" => some (((Real.sqrt 2)⁻¹ : ℝ) : EReal)
  | _ => none
-- ==== ReferenceIdeal.lean ====
abbrev S16384x2048 : Shape := ⟨2, ![16384, 2048]⟩
abbrev S256x2048 : Shape := ⟨2, ![256, 2048]⟩
abbrev S256 : Shape := ⟨1, ![256]⟩
abbrev S64x256 : Shape := ⟨2, ![64, 256]⟩
abbrev S64 : Shape := ⟨1, ![64]⟩
abbrev S2048x256 : Shape := ⟨2, ![2048, 256]⟩
abbrev S16384x256 : Shape := ⟨2, ![16384, 256]⟩
abbrev S1x256 : Shape := ⟨2, ![1, 256]⟩
abbrev S_ : Shape := ⟨0, ![]⟩
abbrev S256x64 : Shape := ⟨2, ![256, 64]⟩
abbrev S16384x64 : Shape := ⟨2, ![16384, 64]⟩
abbrev S1x64 : Shape := ⟨2, ![1, 64]⟩
abbrev S16384x8 : Shape := ⟨2, ![16384, 8]⟩
abbrev S16384 : Shape := ⟨1, ![16384]⟩
abbrev S16384x1 : Shape := ⟨2, ![16384, 1]⟩
abbrev S16384x8x1 : Shape := ⟨3, ![16384, 8, 1]⟩
abbrev S16384x8x2 : Shape := ⟨3, ![16384, 8, 2]⟩

abbrev nBuf : Space → Nat
  | .hbm => 65
  | .vmem => 0
  | .smem => 0
  | _ => 0

abbrev bufTy : (tb : Table) → Fin (tcTables nBuf tb) → BufTy
  | .hbm, ⟨0, _⟩ => ⟨S16384x2048, .f32⟩
  | .hbm, ⟨1, _⟩ => ⟨S256x2048, .f32⟩
  | .hbm, ⟨2, _⟩ => ⟨S256, .f32⟩
  | .hbm, ⟨3, _⟩ => ⟨S64x256, .f32⟩
  | .hbm, ⟨4, _⟩ => ⟨S64, .f32⟩
  | .hbm, ⟨5, _⟩ => ⟨S2048x256, .f32⟩
  | .hbm, ⟨6, _⟩ => ⟨S16384x256, .f32⟩
  | .hbm, ⟨7, _⟩ => ⟨S1x256, .f32⟩
  | .hbm, ⟨8, _⟩ => ⟨S16384x256, .f32⟩
  | .hbm, ⟨9, _⟩ => ⟨S16384x256, .f32⟩
  | .hbm, ⟨10, _⟩ => ⟨S_, .f32⟩
  | .hbm, ⟨11, _⟩ => ⟨S16384x256, .f32⟩
  | .hbm, ⟨12, _⟩ => ⟨S16384x256, .f32⟩
  | .hbm, ⟨13, _⟩ => ⟨S16384x256, .f32⟩
  | .hbm, ⟨14, _⟩ => ⟨S_, .f32⟩
  | .hbm, ⟨15, _⟩ => ⟨S_, .f32⟩
  | .hbm, ⟨16, _⟩ => ⟨S16384x256, .f32⟩
  | .hbm, ⟨17, _⟩ => ⟨S16384x256, .f32⟩
  | .hbm, ⟨18, _⟩ => ⟨S16384x256, .f32⟩
  | .hbm, ⟨19, _⟩ => ⟨S16384x256, .f32⟩
  | .hbm, ⟨20, _⟩ => ⟨S256x64, .f32⟩
  | .hbm, ⟨21, _⟩ => ⟨S16384x64, .f32⟩
  | .hbm, ⟨22, _⟩ => ⟨S1x64, .f32⟩
  | .hbm, ⟨23, _⟩ => ⟨S16384x64, .f32⟩
  | .hbm, ⟨24, _⟩ => ⟨S16384x64, .f32⟩
  | .hbm, ⟨25, _⟩ => ⟨S16384x8, .f32⟩
  | .hbm, ⟨26, _⟩ => ⟨S16384x8, .i32⟩
  | .hbm, ⟨27, _⟩ => ⟨S_, .f32⟩
  | .hbm, ⟨28, _⟩ => ⟨S16384, .f32⟩
  | .hbm, ⟨29, _⟩ => ⟨S_, .f32⟩
  | .hbm, ⟨30, _⟩ => ⟨S16384, .f32⟩
  | .hbm, ⟨31, _⟩ => ⟨S16384, .f32⟩
  | .hbm, ⟨32, _⟩ => ⟨S16384x1, .f32⟩
  | .hbm, ⟨33, _⟩ => ⟨S16384x8, .f32⟩
  | .hbm, ⟨34, _⟩ => ⟨S16384x8, .f32⟩
  | .hbm, ⟨35, _⟩ => ⟨S16384x8, .f32⟩
  | .hbm, ⟨36, _⟩ => ⟨S_, .f32⟩
  | .hbm, ⟨37, _⟩ => ⟨S16384, .f32⟩
  | .hbm, ⟨38, _⟩ => ⟨S16384x1, .f32⟩
  | .hbm, ⟨39, _⟩ => ⟨S16384x8, .f32⟩
  | .hbm, ⟨40, _⟩ => ⟨S16384x8, .f32⟩
  | .hbm, ⟨41, _⟩ => ⟨S16384, .i32⟩
  | .hbm, ⟨42, _⟩ => ⟨S16384x1, .i32⟩
  | .hbm, ⟨43, _⟩ => ⟨S_, .f32⟩
  | .hbm, ⟨44, _⟩ => ⟨S16384x64, .f32⟩
  | .hbm, ⟨45, _⟩ => ⟨S_, .i32⟩
  | .hbm, ⟨46, _⟩ => ⟨S16384x1, .i32⟩
  | .hbm, ⟨47, _⟩ => ⟨S16384x1, .i1⟩
  | .hbm, ⟨48, _⟩ => ⟨S_, .i32⟩
  | .hbm, ⟨49, _⟩ => ⟨S16384x1, .i32⟩
  | .hbm, ⟨50, _⟩ => ⟨S16384x1, .i32⟩
  | .hbm, ⟨51, _⟩ => ⟨S16384x1, .i32⟩
  | .hbm, ⟨52, _⟩ => ⟨S_, .i32⟩
  | .hbm, ⟨53, _⟩ => ⟨S16384x8, .i32⟩
  | .hbm, ⟨54, _⟩ => ⟨S16384x8, .i1⟩
  | .hbm, ⟨55, _⟩ => ⟨S_, .i32⟩
  | .hbm, ⟨56, _⟩ => ⟨S16384x8, .i32⟩
  | .hbm, ⟨57, _⟩ => ⟨S16384x8, .i32⟩
  | .hbm, ⟨58, _⟩ => ⟨S16384x8, .i32⟩
  | .hbm, ⟨59, _⟩ => ⟨S16384x8, .i32⟩
  | .hbm, ⟨60, _⟩ => ⟨S16384x8x1, .i32⟩
  | .hbm, ⟨61, _⟩ => ⟨S16384x8x1, .i32⟩
  | .hbm, ⟨62, _⟩ => ⟨S16384x8x2, .i32⟩
  | .hbm, ⟨63, _⟩ => ⟨S16384x64, .f32⟩
  | .hbm, ⟨64, _⟩ => ⟨S_, .f32⟩
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst_0 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_values : Ref sig .tc := ⟨.hbm, 25, rfl⟩
abbrev main_indices : Ref sig .tc := ⟨.hbm, 26, rfl⟩
abbrev main_cst_1 : Ref sig .tc := ⟨.hbm, 27, rfl⟩
abbrev main_v18 : Ref sig .tc := ⟨.hbm, 28, rfl⟩
abbrev main_cst_2 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_cst_3 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_cst_4 : Ref sig .tc := ⟨.hbm, 43, rfl⟩
abbrev main_v31 : Ref sig .tc := ⟨.hbm, 44, rfl⟩
abbrev main_c : Ref sig .tc := ⟨.hbm, 45, rfl⟩
abbrev main_v32 : Ref sig .tc := ⟨.hbm, 46, rfl⟩
abbrev main_v33 : Ref sig .tc := ⟨.hbm, 47, rfl⟩
abbrev main_c_5 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_c_6 : Ref sig .tc := ⟨.hbm, 52, rfl⟩
abbrev main_v37 : Ref sig .tc := ⟨.hbm, 53, rfl⟩
abbrev main_v38 : Ref sig .tc := ⟨.hbm, 54, rfl⟩
abbrev main_c_7 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_cst_8 : Ref sig .tc := ⟨.hbm, 64, rfl⟩

abbrev nD : Nat := 1
abbrev τ : Topo := Topo.v7x

variable {F : FTy → Type} [FloatOps F]
-- ==== Proof.Consts.lean ====
/- The float constants that the two programs print, as extended reals. -/
module

public import Idealize.ShloMosaic.PureOps.Ideal.Laws
public import Idealize.ShloMosaic.Lib.IdealHost

@[expose] public section

namespace Cert.Proof

open Idealize.ShloMosaic

/-- Minus infinity. -/
theorem ofBits_negInf : Ideal.ofBits .f32 0xFF800000#32 = ⊥ := by
  simp [Ideal.ofBits, Ideal.ieee]

/-- Plus infinity. -/
theorem ofBits_inf : Ideal.ofBits .f32 0x7F800000#32 = ⊤ := by
  simp [Ideal.ofBits, Ideal.ieee]

/-- Two. -/
theorem ofBits_two : Ideal.ofBits .f32 0x40000000#32 = ((2 : ℝ) : EReal) := by
  simp [Ideal.ofBits, Ideal.ieee, -EReal.coe_mul]
  norm_num

/-- One half. -/
theorem ofBits_half : Ideal.ofBits .f32 0x3F000000#32 = ((1 / 2 : ℝ) : EReal) := by
  simp [Ideal.ofBits, Ideal.ieee, -EReal.coe_mul]
  norm_num

/-- A quotient by the square root of two is a product with its reciprocal. -/
theorem div_root_two (x : EReal) :
    Ideal.div x (Ideal.sqrt (Ideal.ofBits .f32 0x40000000#32)) = x * (((Real.sqrt 2)⁻¹ : ℝ) : EReal) := by
  rw [ofBits_two, Ideal.sqrt_coe, if_neg (by norm_num), Ideal.div_coe (by positivity), one_div]

end Cert.Proof
-- ==== Proof.Ranking.lean ====
/- One row of 64 extended reals, ranked: the greatest entry first, equal entries in the order of their positions. Two
   ways to take the first `n` positions of that ranking are compared here: the stable sort by "greater than", and `n`
   rounds that each pick the first position of the greatest entry and strike it out with minus infinity. -/
module

public import Idealize.ShloMosaic.Lib.SortPrefix
public import Idealize.ShloMosaic.PureOps.Ideal

@[expose] public section

namespace Cert.Proof

open Idealize.ShloMosaic

/-- Position `k` is ranked before position `j`: its entry is greater, or the entries are equal and `k` is the earlier
    position. -/
noncomputable def before (ℓ : Fin 64 → EReal) (k j : Fin 64) : Bool :=
  decide (ℓ j < ℓ k) || (decide (ℓ k = ℓ j) && decide (k < j))

/-- That order is a strict total order of the positions. -/
theorem before_total (ℓ : Fin 64 → EReal) : StrictTotalBefore (before ℓ) :=
  StrictTotalBefore.of_key_then_position (fun a b : EReal => decide (b < a)) ℓ (by simp)
    (fun a b c hab hbc => by
      simp only [decide_eq_true_eq] at hab hbc ⊢
      exact lt_trans hbc hab)
    (fun a b => by
      simp only [decide_eq_true_eq]
      rcases lt_trichotomy a b with h | h | h
      · exact .inr (.inr h)
      · exact .inr (.inl h)
      · exact .inl h)

/-- The position ranked `i`-th, from 0. -/
noncomputable def ranked (ℓ : Fin 64 → EReal) : Fin 64 → Fin 64 := sortedFrom (before ℓ)

/-- Different ranks are held by different positions. -/
theorem ranked_injective (ℓ : Fin 64 → EReal) : Function.Injective (ranked ℓ) := sortedFrom_injective _

/-- Every position has a rank. -/
theorem ranked_surjective (ℓ : Fin 64 → EReal) : Function.Surjective (ranked ℓ) := sortedFrom_surjective _

/-- The definition of the ranking, as an equation. -/
theorem sortedFrom_before (ℓ : Fin 64 → EReal) : sortedFrom (before ℓ) = ranked ℓ := rfl

attribute [irreducible] ranked

/-- Of two ranks the lesser one holds a greater entry, or an equal entry at an earlier position. -/
theorem ranked_lt (ℓ : Fin 64 → EReal) {i j : Fin 64} (h : i < j) :
    ℓ (ranked ℓ j) < ℓ (ranked ℓ i) ∨ (ℓ (ranked ℓ i) = ℓ (ranked ℓ j) ∧ ranked ℓ i < ranked ℓ j) := by
  have hB := before_total ℓ
  have hno : before ℓ (ranked ℓ j) (ranked ℓ i) = false :=
    sortedFrom_before ℓ ▸
      sortedFrom_noInversion (before ℓ) (before ℓ) (fun a b => hB.asymm a b) (fun _ _ h => h) hB.negTrans i j h
  have hne : ranked ℓ i ≠ ranked ℓ j := fun e => h.ne (ranked_injective ℓ e)
  have hyes : before ℓ (ranked ℓ i) (ranked ℓ j) = true := by
    rcases hB.total _ _ hne with h | h
    · exact h
    · rw [hno] at h; exact absurd h (by decide)
  simpa [before] using hyes

/-- Entries do not increase along the ranking. -/
theorem ranked_le (ℓ : Fin 64 → EReal) {i j : Fin 64} (h : i ≤ j) : ℓ (ranked ℓ j) ≤ ℓ (ranked ℓ i) := by
  rcases h.eq_or_lt with rfl | h
  · exact le_rfl
  · rcases ranked_lt ℓ h with h | ⟨h, -⟩
    · exact h.le
    · exact h.ge

/-- A stable sort asks its relation only whether a later element of the list comes before an earlier one, so on an
    increasing list two relations that agree there sort alike. -/
theorem stableSort_eq_of_increasing {n : Nat} (R R' : Fin n → Fin n → Bool) (l : List (Fin n))
    (hl : l.Pairwise (· < ·)) (h : ∀ a b, a < b → R b a = R' b a) : stableSort R l = stableSort R' l := by
  induction l with
  | nil => rfl
  | cons a l ih =>
    rw [List.pairwise_cons] at hl
    unfold stableSort
    rw [ih hl.2]
    exact insertBefore_congr R R' a _ fun b hb => h a b (hl.1 b ((perm_stableSort R' l).mem_iff.mp hb))

/-- So a stable sort of all positions depends only on what its relation says of a later position against an
    earlier one. -/
theorem sortedFrom_eq_of_increasing {n : Nat} (R R' : Fin n → Fin n → Bool) (h : ∀ a b, a < b → R b a = R' b a) :
    sortedFrom R = sortedFrom R' := by
  have e : sortPositions n R = sortPositions n R' :=
    stableSort_eq_of_increasing _ _ _ (List.pairwise_lt_finRange n) h
  funext k
  unfold sortedFrom
  rw [List.get_of_eq e]
  rfl

/-- The stable sort by "greater than" is the ranking. -/
theorem sortedFrom_gt (ℓ : Fin 64 → EReal) :
    sortedFrom (fun k k' => decide (ℓ k' < ℓ k)) = ranked ℓ :=
  (sortedFrom_eq_of_increasing _ _ fun a b hab => by simp [before, not_lt_of_gt hab]).trans (sortedFrom_before ℓ)

/-! ## Rounds -/

/-- Position `j` is the first one whose entry is the greatest of the row. -/
def Picks (w : Fin 64 → EReal) (j : Fin 64) : Prop :=
  (∀ k, w k ≤ w j) ∧ ∀ k, k < j → w k ≠ w j

open Classical in
/-- The row after `n` rounds, the picked entries struck out with minus infinity. -/
noncomputable def struck (ℓ : Fin 64 → EReal) : Nat → Fin 64 → EReal
  | 0 => ℓ
  | n + 1 => fun j => if Picks (struck ℓ n) j then ⊥ else struck ℓ n j

/-- Position `j` is picked in one of the first `n` rounds. -/
def Chosen (ℓ : Fin 64 → EReal) : Nat → Fin 64 → Prop
  | 0 => fun _ => False
  | n + 1 => fun j => Chosen ℓ n j ∨ Picks (struck ℓ n) j

/-- Where the first `n` ranks are struck out and no entry is minus infinity, the next pick is rank `n`. -/
theorem picks_iff {ℓ w : Fin 64 → EReal} (hb : ∀ j, ℓ j ≠ ⊥) {n : Nat} (hn : n < 64)
    (hw : ∀ i : Fin 64, w (ranked ℓ i) = if i.val < n then ⊥ else ℓ (ranked ℓ i)) (i : Fin 64) :
    Picks w (ranked ℓ i) ↔ i.val = n := by
  have hwn : w (ranked ℓ ⟨n, hn⟩) = ℓ (ranked ℓ ⟨n, hn⟩) := by rw [hw]; simp
  constructor
  · rintro ⟨hmax, hfirst⟩
    rcases lt_trichotomy i.val n with h | h | h
    · have := hmax (ranked ℓ ⟨n, hn⟩)
      rw [hwn, hw i, if_pos h, le_bot_iff] at this
      exact absurd this (hb _)
    · exact h
    · have hwi : w (ranked ℓ i) = ℓ (ranked ℓ i) := by rw [hw, if_neg (by omega)]
      have hlt : (⟨n, hn⟩ : Fin 64) < i := h
      rcases ranked_lt ℓ hlt with h' | ⟨he, hp⟩
      · have := hmax (ranked ℓ ⟨n, hn⟩)
        rw [hwn, hwi] at this
        exact absurd h' (not_lt_of_ge this)
      · exact absurd (by rw [hwn, hwi, he]) (hfirst _ hp)
  · intro h
    obtain rfl : i = ⟨n, hn⟩ := Fin.ext h
    refine ⟨fun k => ?_, fun k hk => ?_⟩
    · obtain ⟨m, rfl⟩ := ranked_surjective ℓ k
      rw [hwn, hw m]
      split
      · exact bot_le
      · exact ranked_le ℓ (Fin.le_def.mpr (by simpa using ‹¬ m.val < n›))
    · obtain ⟨m, rfl⟩ := ranked_surjective ℓ k
      rw [hwn, hw m]
      split
      · exact (hb _).symm
      · rename_i hm
        rcases (Nat.le_of_not_lt hm).eq_or_lt with e | hlt
        · exact absurd hk (by rw [show m = ⟨n, hn⟩ from Fin.ext e.symm]; exact lt_irrefl _)
        · rcases ranked_lt ℓ (show (⟨n, hn⟩ : Fin 64) < m from hlt) with h' | ⟨-, hp⟩
          · exact h'.ne
          · exact absurd hk (not_lt_of_gt hp)

/-- After `n` rounds exactly the first `n` ranks are struck out. -/
theorem struck_ranked {ℓ : Fin 64 → EReal} (hb : ∀ j, ℓ j ≠ ⊥) (n : Nat) (hn : n ≤ 64) (i : Fin 64) :
    struck ℓ n (ranked ℓ i) = if i.val < n then ⊥ else ℓ (ranked ℓ i) := by
  induction n generalizing i with
  | zero => simp [struck]
  | succ n ih =>
    have ih := ih (by omega)
    have hp := picks_iff hb (by omega : n < 64) ih i
    simp only [struck]
    by_cases h : i.val = n
    · rw [if_pos (hp.mpr h), if_pos (by omega)]
    · rw [if_neg (fun hc => h (hp.mp hc)), ih i]
      by_cases h' : i.val < n
      · rw [if_pos h', if_pos (by omega)]
      · rw [if_neg h', if_neg (by omega)]

/-- `n` rounds choose the first `n` ranks. -/
theorem chosen_ranked {ℓ : Fin 64 → EReal} (hb : ∀ j, ℓ j ≠ ⊥) (n : Nat) (hn : n ≤ 64) (i : Fin 64) :
    Chosen ℓ n (ranked ℓ i) ↔ i.val < n := by
  induction n with
  | zero => simp [Chosen]
  | succ n ih =>
    have hp := picks_iff hb (by omega : n < 64) (struck_ranked hb n (by omega)) i
    simp only [Chosen]
    rw [ih (by omega), hp]
    omega

end Cert.Proof
-- ==== Proof.Gate.lean ====
/- The gate of one row of 64 logits: the softmax over the first eight positions of its ranking (Ranking.lean), zero at
   every other position. And the form in which the kernel computes it: eight rounds of picking the first position of the
   greatest entry, the exponentials masked by "picked in some round", divided by their sum over the whole row. -/
module

public import proofs.«01_k».proof.Proof.Ranking
public import proofs.«01_k».proof.Proof.Consts

@[expose] public section

namespace Cert.Proof

open Idealize.ShloMosaic

/-- The position ranked `i`-th, for the first eight ranks. -/
noncomputable def top8 (ℓ : Fin 64 → EReal) (i : Fin 8) : Fin 64 := ranked ℓ (i.castLE (by decide))

/-- The top eight are eight different positions. -/
theorem top8_injective (ℓ : Fin 64 → EReal) : Function.Injective (top8 ℓ) := fun a b h =>
  Fin.castLE_injective _ (ranked_injective ℓ h)

/-- The exponential weight of position `j`: the entry less the greatest one. -/
noncomputable def weight (ℓ : Fin 64 → EReal) (j : Fin 64) : EReal := Ideal.exp (ℓ j - ℓ (top8 ℓ 0))

open Classical in
/-- The gate of one row: the softmax over its top eight, zero elsewhere. -/
noncomputable def gate (ℓ : Fin 64 → EReal) (j : Fin 64) : EReal :=
  if ∃ i, top8 ℓ i = j then Ideal.div (weight ℓ j) (∑ i, weight ℓ (top8 ℓ i)) else 0

/-- The gate at a position of the top eight. -/
theorem gate_top8 (ℓ : Fin 64 → EReal) (i : Fin 8) :
    gate ℓ (top8 ℓ i) = Ideal.div (weight ℓ (top8 ℓ i)) (∑ i, weight ℓ (top8 ℓ i)) :=
  if_pos ⟨i, rfl⟩

/-- The gate at any other position. -/
theorem gate_other (ℓ : Fin 64 → EReal) (j : Fin 64) (h : ∀ i, top8 ℓ i ≠ j) : gate ℓ j = 0 :=
  if_neg fun ⟨i, e⟩ => h i e

/-- The greatest entry of the row is the one ranked first. -/
theorem fold_max (ℓ : Fin 64 → EReal) : Finset.univ.fold max ⊥ ℓ = ℓ (top8 ℓ 0) := by
  refine le_antisymm ?_ ?_
  · refine (Finset.fold_max_le _).mpr ⟨bot_le, fun k _ => ?_⟩
    obtain ⟨i, rfl⟩ := ranked_surjective ℓ k
    exact ranked_le ℓ (Fin.zero_le i)
  · exact (Finset.le_fold_max _).mpr (.inr ⟨_, Finset.mem_univ _, le_rfl⟩)

/-- The greatest of the top eight is the one ranked first. -/
theorem fold_max_top8 (ℓ : Fin 64 → EReal) : Finset.univ.fold max ⊥ (fun i => ℓ (top8 ℓ i)) = ℓ (top8 ℓ 0) := by
  refine le_antisymm ?_ ?_
  · exact (Finset.fold_max_le _).mpr ⟨bot_le, fun i _ => ranked_le ℓ (Fin.zero_le _)⟩
  · exact (Finset.le_fold_max _).mpr (.inr ⟨0, Finset.mem_univ _, le_rfl⟩)

/-! ## One round, in words -/

/-- The fold of the signed minimum is at most every word, and is the start or one of the words. -/
theorem fold_minsi (g : Fin 64 → BitVec 32) (init : BitVec 32) (s : Finset (Fin 64)) :
    (∀ k ∈ s, (s.fold IntOp.minsi init g).toInt ≤ (g k).toInt)
      ∧ (s.fold IntOp.minsi init g).toInt ≤ init.toInt
      ∧ (s.fold IntOp.minsi init g = init ∨ ∃ k ∈ s, s.fold IntOp.minsi init g = g k) := by
  induction s using Finset.induction_on with
  | empty => simp
  | insert a s ha ih =>
    obtain ⟨h1, h2, h3⟩ := ih
    rw [Finset.fold_insert ha]
    generalize Finset.fold IntOp.minsi init g s = M at h1 h2 h3
    have hm : (IntOp.minsi (g a) M = g a ∧ (g a).toInt < M.toInt) ∨ (IntOp.minsi (g a) M = M ∧ M.toInt ≤ (g a).toInt) := by
      by_cases h : (g a).toInt < M.toInt
      · exact .inl ⟨by simp [IntOp.minsi, BitVec.slt, h], h⟩
      · exact .inr ⟨by simp [IntOp.minsi, BitVec.slt, h], not_lt.mp h⟩
    rcases hm with ⟨e, h⟩ | ⟨e, h⟩ <;> rw [e]
    · refine ⟨fun k hk => ?_, h.le.trans h2, .inr ⟨a, Finset.mem_insert_self _ _, rfl⟩⟩
      rcases Finset.mem_insert.mp hk with rfl | hk
      · exact le_rfl
      · exact h.le.trans (h1 k hk)
    · refine ⟨fun k hk => ?_, h2, h3.imp_right fun ⟨k, hk, e⟩ => ⟨k, Finset.mem_insert_of_mem hk, e⟩⟩
      rcases Finset.mem_insert.mp hk with rfl | hk
      · exact h
      · exact h1 k hk

/-- A word of a number up to 64 reads back as that number. -/
theorem toInt_ofNat {n : Nat} (h : n ≤ 64) : (BitVec.ofNat 32 n).toInt = n := by
  rw [BitVec.toInt_eq_toNat_of_lt (by rw [BitVec.toNat_ofNat]; omega), BitVec.toNat_ofNat]
  omega

/-- A round's comparison: the position is the least one at which the row attains its maximum. -/
theorem first_of_greatest (w : Fin 64 → EReal) (j : Fin 64) :
    IntOp.cmpi .eq (BitVec.ofNat 32 j.val) (Finset.univ.fold IntOp.minsi 2147483647#32 fun k =>
      if w k = Finset.univ.fold max ⊥ w then BitVec.ofNat 32 k.val else 64#32) = 1#1 ↔ Picks w j := by
  rw [fold_max]
  have hmax : ∀ k, w k ≤ w (top8 w 0) := fun k => by
    obtain ⟨i, rfl⟩ := ranked_surjective w k
    exact ranked_le w (Fin.zero_le i)
  have hpicks : Picks w j ↔ w j = w (top8 w 0) ∧ ∀ k, k < j → w k ≠ w (top8 w 0) := by
    constructor
    · rintro ⟨h1, h2⟩
      have e : w j = w (top8 w 0) := le_antisymm (hmax j) (h1 _)
      exact ⟨e, fun k hk hk' => h2 k hk (hk'.trans e.symm)⟩
    · rintro ⟨e, h⟩
      refine ⟨fun k => ?_, fun k hk => ?_⟩
      · rw [e]; exact hmax k
      · rw [e]; exact h k hk
  rw [hpicks]
  generalize hx : w (top8 w 0) = x
  obtain ⟨h1, -, h3⟩ := fold_minsi (fun k => if w k = x then BitVec.ofNat 32 k.val else 64#32) 2147483647#32 Finset.univ
  generalize Finset.univ.fold IntOp.minsi 2147483647#32 (fun k => if w k = x then BitVec.ofNat 32 k.val else 64#32) = M
    at h1 h3 ⊢
  have hle : ∀ k, w k = x → M.toInt ≤ k.val := fun k hk => by
    have := h1 k (Finset.mem_univ k)
    rwa [if_pos hk, toInt_ofNat (by omega)] at this
  have htop := hle _ hx
  obtain ⟨k, hk, rfl⟩ : ∃ k : Fin 64, w k = x ∧ M = BitVec.ofNat 32 k.val := by
    rcases h3 with rfl | ⟨k, -, e⟩
    · rw [show (2147483647#32).toInt = 2147483647 by decide] at htop
      omega
    · by_cases hk : w k = x
      · exact ⟨k, hk, by rw [e, if_pos hk]⟩
      · rw [e, if_neg hk, show (64#32).toInt = 64 by decide] at htop
        omega
  have hle' : ∀ k', w k' = x → k.val ≤ k'.val := fun k' hk' => by
    have := hle k' hk'
    rw [toInt_ofNat (by omega)] at this
    omega
  have hcmp : IntOp.cmpi .eq (BitVec.ofNat 32 j.val) (BitVec.ofNat 32 k.val) = 1#1 ↔ j = k := by
    rw [show IntOp.cmpi .eq (BitVec.ofNat 32 j.val) (BitVec.ofNat 32 k.val)
      = BitVec.ofBool (BitVec.ofNat 32 j.val == BitVec.ofNat 32 k.val) from rfl]
    constructor
    · intro h
      have e : BitVec.ofNat 32 j.val = BitVec.ofNat 32 k.val := by
        by_contra hne
        rw [beq_eq_false_iff_ne.mpr hne] at h
        exact absurd h (by decide)
      have e' := congrArg BitVec.toInt e
      rw [toInt_ofNat (by omega), toInt_ofNat (by omega)] at e'
      exact Fin.ext (by omega)
    · rintro rfl
      simp
  rw [hcmp]
  constructor
  · rintro rfl
    exact ⟨hk, fun k' hlt hk' => absurd (hle' k' hk') (by have := Fin.lt_def.mp hlt; omega)⟩
  · rintro ⟨hj, hfirst⟩
    have h := hle' j hj
    rcases h.eq_or_lt with e | hlt
    · exact Fin.ext e.symm
    · exact absurd hk (hfirst k hlt)

/-! ## The masked softmax -/

/-- An exponential is not negative. -/
theorem exp_nonneg (x : EReal) : 0 ≤ Ideal.exp x := by
  induction x using EReal.rec with
  | bot => exact le_rfl
  | top => exact le_top
  | coe r => exact EReal.coe_nonneg.mpr (Real.exp_pos r).le

/-- The weights of the top eight add up to at least one. -/
theorem one_le_sum_weight {ℓ : Fin 64 → EReal} (hb : ∀ j, ℓ j ≠ ⊥) (ht : ∀ j, ℓ j ≠ ⊤) :
    1 ≤ ∑ i, weight ℓ (top8 ℓ i) := by
  have h0 : weight ℓ (top8 ℓ 0) = 1 := by
    unfold weight
    rw [EReal.sub_self (ht _) (hb _)]
    exact (Ideal.exp_coe 0).trans (by simp)
  rw [← h0]
  exact Finset.single_le_sum (f := fun i => weight ℓ (top8 ℓ i)) (fun i _ => exp_nonneg _) (Finset.mem_univ 0)

/-- Zero divided by at least one is zero. -/
theorem zero_div {x : EReal} (h : 1 ≤ x) : Ideal.div 0 x = 0 := by
  unfold Ideal.div
  rw [if_neg (fun e => absurd (e ▸ h) (by norm_num)), zero_mul]

/-- A sum over the row of a function masked to the top eight is its sum over the top eight. -/
theorem sum_masked (ℓ f : Fin 64 → EReal) (g : Fin 64 → EReal)
    (h : ∀ i : Fin 64, g (ranked ℓ i) = if i.val < 8 then f (ranked ℓ i) else 0) :
    ∑ j, g j = ∑ i, f (top8 ℓ i) := by
  rw [← (Equiv.ofBijective (ranked ℓ) ⟨ranked_injective ℓ, ranked_surjective ℓ⟩).sum_comp g]
  refine (Fin.sum_univ_add (a := 8) (b := 56) fun i => g (ranked ℓ i)).trans ?_
  rw [Finset.sum_eq_zero (s := (Finset.univ : Finset (Fin 56))) (fun i _ => by
    rw [h]; exact if_neg (by simp)), add_zero]
  refine Finset.sum_congr rfl fun i _ => ?_
  rw [h]
  exact if_pos (by simp)

/-- The exponentials of a row masked to the positions that eight rounds pick, divided by their sum, are its gate. -/
theorem gate_of_rounds {ℓ : Fin 64 → EReal} (hb : ∀ j, ℓ j ≠ ⊥) (ht : ∀ j, ℓ j ≠ ⊤) (s : Fin 64 → BitVec 1)
    (hs : ∀ j, s j = 1#1 ↔ Chosen ℓ 8 j) (j : Fin 64) :
    Ideal.div (Scalar.select (s j) (Ideal.exp (ℓ j - Finset.univ.fold max ⊥ ℓ)) 0)
      (∑ k, Scalar.select (s k) (Ideal.exp (ℓ k - Finset.univ.fold max ⊥ ℓ)) 0) = gate ℓ j := by
  have hsel : ∀ i : Fin 64, Scalar.select (s (ranked ℓ i)) (Ideal.exp (ℓ (ranked ℓ i) - Finset.univ.fold max ⊥ ℓ)) 0
      = if i.val < 8 then weight ℓ (ranked ℓ i) else 0 := fun i => by
    have h := (hs (ranked ℓ i)).trans (chosen_ranked hb 8 (by decide) i)
    rw [fold_max]
    unfold weight
    by_cases h8 : i.val < 8
    · rw [if_pos h8]
      exact if_pos (h.mpr h8)
    · rw [if_neg h8]
      exact if_neg fun e => h8 (h.mp e)
  rw [sum_masked ℓ (weight ℓ) _ hsel]
  obtain ⟨i, rfl⟩ := ranked_surjective ℓ j
  rw [hsel]
  by_cases h8 : i.val < 8
  · rw [if_pos h8]
    exact (gate_top8 ℓ ⟨i.val, h8⟩).symm
  · rw [if_neg h8, zero_div (one_le_sum_weight hb ht)]
    exact (gate_other ℓ _ fun k e => h8 (by
      rw [← ranked_injective ℓ e]
      exact k.isLt)).symm

end Cert.Proof
-- ==== Proof.Logits.lean ====
/- The logits of one token: two matrix products with a bias each, the exact GELU between them. They are real numbers
   where the token, the weights and the biases are. -/
module

public import proofs.«01_k».proof.Proof.Consts

@[expose] public section

namespace Cert.Proof

open Idealize.ShloMosaic

/-- The exact GELU, `u/2 · (1 + erf (u/√2))`. -/
noncomputable def gelu (u : EReal) : EReal :=
  ((1 / 2 : ℝ) : EReal) * u * (1 + Ideal.erf (u * (((Real.sqrt 2)⁻¹ : ℝ) : EReal)))

/-- The logits of one token `x`: `W2 · gelu (W1 · x + b1) + b2`. -/
noncomputable def logits (x : Fin 2048 → EReal) (W1 : Fin 256 → Fin 2048 → EReal) (b1 : Fin 256 → EReal)
    (W2 : Fin 64 → Fin 256 → EReal) (b2 : Fin 64 → EReal) (j : Fin 64) : EReal :=
  ∑ k, gelu (∑ d, x d * W1 k d + b1 k) * W2 j k + b2 j

/-- `0.5 · u · erfc (−u / √2)`, as the reference writes the GELU. -/
theorem gelu_erfc (u : EReal) :
    Ideal.ofBits .f32 0x3F000000#32 * u * Ideal.erfc (Ideal.div (-u) (Ideal.sqrt (Ideal.ofBits .f32 0x40000000#32)))
      = gelu u := by
  rw [div_root_two, EReal.neg_mul, Ideal.erfc_neg, ofBits_half]
  rfl

/-! ## Real numbers stay real -/

/-- The extended real is a real number. -/
def IsReal (x : EReal) : Prop := ∃ r : ℝ, x = r

/-- What lies strictly between the infinities is real. -/
theorem IsReal.of_lt {x : EReal} (hb : ⊥ < x) (ht : x < ⊤) : IsReal x :=
  ⟨x.toReal, (EReal.coe_toReal ht.ne hb.ne').symm⟩

theorem IsReal.ne_bot {x : EReal} : IsReal x → x ≠ ⊥ := fun ⟨_, e⟩ => e ▸ EReal.coe_ne_bot _

theorem IsReal.ne_top {x : EReal} : IsReal x → x ≠ ⊤ := fun ⟨_, e⟩ => e ▸ EReal.coe_ne_top _

theorem IsReal.add {x y : EReal} : IsReal x → IsReal y → IsReal (x + y)
  | ⟨a, ha⟩, ⟨b, hb⟩ => ⟨a + b, by rw [ha, hb, EReal.coe_add]⟩

theorem IsReal.mul {x y : EReal} : IsReal x → IsReal y → IsReal (x * y)
  | ⟨a, ha⟩, ⟨b, hb⟩ => ⟨a * b, by rw [ha, hb, EReal.coe_mul]⟩

theorem IsReal.sum {n : Nat} {f : Fin n → EReal} (h : ∀ i, IsReal (f i)) : IsReal (∑ i, f i) :=
  Finset.sum_induction f IsReal (fun _ _ => IsReal.add) ⟨0, rfl⟩ fun i _ => h i

theorem IsReal.erf {x : EReal} : IsReal x → IsReal (Ideal.erf x)
  | ⟨a, ha⟩ => ⟨_, by rw [ha, Ideal.erf_coe]⟩

theorem IsReal.gelu {u : EReal} (h : IsReal u) : IsReal (gelu u) :=
  ((IsReal.mul ⟨_, rfl⟩ h).mul (IsReal.add ⟨1, rfl⟩ (h.mul ⟨_, rfl⟩).erf))

/-- Logits of real arguments are real. -/
theorem isReal_logits {x : Fin 2048 → EReal} {W1 : Fin 256 → Fin 2048 → EReal} {b1 : Fin 256 → EReal}
    {W2 : Fin 64 → Fin 256 → EReal} {b2 : Fin 64 → EReal} (hx : ∀ d, IsReal (x d)) (hW1 : ∀ k d, IsReal (W1 k d))
    (hb1 : ∀ k, IsReal (b1 k)) (hW2 : ∀ j k, IsReal (W2 j k)) (hb2 : ∀ j, IsReal (b2 j)) (j : Fin 64) :
    IsReal (logits x W1 b1 W2 b2 j) :=
  (IsReal.sum fun k => ((IsReal.sum fun d => (hx d).mul (hW1 k d)).add (hb1 k)).gelu.mul (hW2 j k)).add (hb2 j)

end Cert.Proof
-- ==== Proof.KernelBlock.lean ====
/- What one block of the kernel computes: row `r` of the block it stores is the gate of the row's logits. -/
module

public import proofs.«01_k».proof.Proof.Gen.KernelIdeal.Frame
public import proofs.«01_k».proof.Proof.Gate
public import proofs.«01_k».proof.Proof.Logits
public import Idealize.ShloMosaic.Lib.Pointwise
public import Idealize.ShloMosaic.PureOps.IdealRules

@[expose] public section

set_option maxRecDepth 16384

namespace Cert.Proof

open Idealize.ShloMosaic Cert.KernelIdeal Cert.KernelIdeal.Gen

/-! ## The eight rounds -/

/-- One round on a block: the mask of each row's first greatest entry. -/
noncomputable def pick (w : FVec Ideal S512x64 .f32) : IVec S512x64 1 :=
  cmpi .eq (iota .tc S512x64 32 [1] iota_S512x64_d1_w32)
    (broadcastTo S512x64 (shapeCast S512x1
      (multiReductionI .minsi [1] S512
        (select
          (cmpf .oeq w
            (broadcastTo S512x64 (shapeCast S512x1
              (multiReduction .maximumf [1] S512 w 0xFF800000#32 reduces_S512x64_S512 (.inl rfl) rfl)
              shapeCasts_S512_S512x1) broadcasts_S512x1_S512x64))
          (iota .tc S512x64 32 [1] iota_S512x64_d1_w32) (broadcast S512x64 64#32))
        2147483647#32 reduces_S512x64_S512 rfl)
      shapeCasts_S512_S512x1) broadcasts_S512x1_S512x64)

/-- The block after `n` rounds, what they picked struck out with minus infinity. -/
noncomputable def left (L : FVec Ideal S512x64 .f32) : Nat → FVec Ideal S512x64 .f32
  | 0 => L
  | n + 1 => select (pick (left L n)) (broadcast S512x64 (Scalar.ofBits .f32 0xFF800000#32)) (left L n)

/-- The mask of what `n` rounds picked. -/
noncomputable def picked (L : FVec Ideal S512x64 .f32) : Nat → IVec S512x64 1
  | 0 => broadcast S512x64 0#1
  | n + 1 => ori (picked L n) (pick (left L n))

/-- The mask of a round holds at the position that the round picks. -/
theorem pick_at (w : FVec Ideal S512x64 .f32) (r : Fin 512) (j : Fin 64) :
    pick w (ix2 r j) = 1#1 ↔ Picks (fun k => w (ix2 r k)) j := by
  refine Iff.trans ?_ (first_of_greatest (fun k => w (ix2 r k)) j)
  pointwise [pick, ofBits_negInf]

/-- What `n` rounds leave of a row of the block. -/
theorem left_at (L : FVec Ideal S512x64 .f32) (n : Nat) (r : Fin 512) :
    (fun k => left L n (ix2 r k)) = struck (fun k => L (ix2 r k)) n := by
  induction n with
  | zero => rfl
  | succ n ih =>
    funext k
    have h := pick_at (left L n) r k
    rw [ih] at h
    have e : left L (n + 1) (ix2 r k)
        = if pick (left L n) (ix2 r k) = 1#1 then Ideal.ofBits .f32 0xFF800000#32 else left L n (ix2 r k) := rfl
    rw [e, ofBits_negInf]
    by_cases hp : Picks (struck (fun k => L (ix2 r k)) n) k
    · rw [if_pos (h.mpr hp)]
      exact (if_pos hp).symm
    · rw [if_neg fun hc => hp (h.mp hc)]
      exact (congrFun ih k).trans (if_neg hp).symm

/-- The mask of `n` rounds holds at the positions that they choose. -/
theorem picked_at (L : FVec Ideal S512x64 .f32) (n : Nat) (r : Fin 512) (j : Fin 64) :
    picked L n (ix2 r j) = 1#1 ↔ Chosen (fun k => L (ix2 r k)) n j := by
  induction n with
  | zero => simp [picked, Chosen, broadcast]
  | succ n ih =>
    have h := pick_at (left L n) r j
    rw [left_at] at h
    have hori : ∀ a b : BitVec 1, IntOp.ori a b = 1#1 ↔ a = 1#1 ∨ b = 1#1 := by decide
    exact (hori _ _).trans (or_congr ih h)

/-! ## The block -/

/-- What the body stores: the masked softmax of the block of logits, by the mask of eight rounds. -/
theorem out_eq (x0 : Vec Ideal S512x2048 .f32) (x1 : Vec Ideal S2048x256 .f32) (x2 : Vec Ideal S1x256 .f32)
    (x3 : Vec Ideal S256x64 .f32) (x4 : Vec Ideal S1x64 .f32) :
    out0_5 x0 x1 x2 x3 x4 = View.canon [⟨r0_5, k0_pay1
      (picked (k0_pay2 (View.ld x0 r0_0) (View.ld x1 r0_1) (View.ld x2 r0_2) (View.ld x3 r0_3) (View.ld x4 r0_4)) 8)
      (k0_pay15 (k0_pay2 (View.ld x0 r0_0) (View.ld x1 r0_1) (View.ld x2 r0_2) (View.ld x3 r0_3)
        (View.ld x4 r0_4)))⟩] := rfl

/-- The logits of row `r` of a block. -/
theorem logits_at (x0 : Vec Ideal S512x2048 .f32) (x1 : Vec Ideal S2048x256 .f32) (x2 : Vec Ideal S1x256 .f32)
    (x3 : Vec Ideal S256x64 .f32) (x4 : Vec Ideal S1x64 .f32) (r : Fin 512) (j : Fin 64) :
    k0_pay2 x0 x1 x2 x3 x4 (ix2 r j)
      = logits (fun d => x0 (ix2 r d)) (fun k d => x1 (ix2 d k)) (fun k => x2 (ix2 0 k)) (fun j k => x3 (ix2 k j))
          (fun j => x4 (ix2 0 j)) j := by
  have hκ : Named.named (F := Ideal) κ "root_half" (φ := .f32) 0x3F3504F3#32 = (((Real.sqrt 2)⁻¹ : ℝ) : EReal) :=
    IdealRules.named_const.ideal_named_scalar _ _ _ _ rfl
  pointwise [k0_pay2, ofBits_half, hκ]
  rfl

/-- The gate, from a block of logits whose row `r` is real. -/
theorem gate_at (L : FVec Ideal S512x64 .f32) (r : Fin 512) (hL : ∀ j, IsReal (L (ix2 r j))) (j : Fin 64) :
    k0_pay1 (picked L 8) (k0_pay15 L) (ix2 r j) = gate (fun k => L (ix2 r k)) j := by
  refine Eq.trans ?_ (gate_of_rounds (fun j => (hL j).ne_bot) (fun j => (hL j).ne_top)
    (fun k => picked L 8 (ix2 r k)) (fun k => picked_at L 8 r k) j)
  pointwise [k0_pay1, k0_pay15, ofBits_negInf]

end Cert.Proof
-- ==== Proof.Spec.lean ====
/- The result array both programs compute: row `t` is the gate of the logits of token `t`. -/
module

public import proofs.«01_k».proof.Proof.Gate
public import proofs.«01_k».proof.Proof.Logits
public import Idealize.ShloMosaic.Lib.Pointwise.Index

@[expose] public section

namespace Cert.Proof

open Idealize.ShloMosaic

/-- The logits of token `t`, from the arrays. -/
noncomputable def tokenLogits (x : (⟨2, ![16384, 2048]⟩ : Shape).Idx → EReal) (W1 : (⟨2, ![256, 2048]⟩ : Shape).Idx → EReal)
    (b1 : (⟨1, ![256]⟩ : Shape).Idx → EReal) (W2 : (⟨2, ![64, 256]⟩ : Shape).Idx → EReal)
    (b2 : (⟨1, ![64]⟩ : Shape).Idx → EReal) (t : Fin 16384) : Fin 64 → EReal :=
  logits (fun d => x (ix2 t d)) (fun k d => W1 (ix2 k d)) (fun k => b1 (ix1 k)) (fun j k => W2 (ix2 j k))
    (fun j => b2 (ix1 j))

/-- The gates of all tokens. -/
noncomputable def gates (x : (⟨2, ![16384, 2048]⟩ : Shape).Idx → EReal) (W1 : (⟨2, ![256, 2048]⟩ : Shape).Idx → EReal)
    (b1 : (⟨1, ![256]⟩ : Shape).Idx → EReal) (W2 : (⟨2, ![64, 256]⟩ : Shape).Idx → EReal)
    (b2 : (⟨1, ![64]⟩ : Shape).Idx → EReal) : (⟨2, ![16384, 64]⟩ : Shape).Idx → EReal :=
  fun i => gate (tokenLogits x W1 b1 W2 b2 (i 0)) (i 1)

/-- Logits of real arrays are real. -/
theorem isReal_tokenLogits {x : (⟨2, ![16384, 2048]⟩ : Shape).Idx → EReal} {W1 : (⟨2, ![256, 2048]⟩ : Shape).Idx → EReal}
    {b1 : (⟨1, ![256]⟩ : Shape).Idx → EReal} {W2 : (⟨2, ![64, 256]⟩ : Shape).Idx → EReal}
    {b2 : (⟨1, ![64]⟩ : Shape).Idx → EReal} (hx : ∀ i, IsReal (x i)) (hW1 : ∀ i, IsReal (W1 i)) (hb1 : ∀ i, IsReal (b1 i))
    (hW2 : ∀ i, IsReal (W2 i)) (hb2 : ∀ i, IsReal (b2 i)) (t : Fin 16384) (j : Fin 64) :
    IsReal (tokenLogits x W1 b1 W2 b2 t j) :=
  isReal_logits (fun _ => hx _) (fun _ _ => hW1 _) (fun _ => hb1 _) (fun _ _ => hW2 _) (fun _ => hb2 _) j

end Cert.Proof
-- ==== Proof.KernelArray.lean ====
/- What the kernel's result array holds after the launch: the gates of all tokens. -/
module

public import proofs.«01_k».proof.Proof.KernelBlock
public import proofs.«01_k».proof.Proof.Spec
public import Idealize.ShloMosaic.Lib.Pipeline.ValueKit
public import Idealize.ShloMosaic.Lib.Claim

@[expose] public section

set_option maxRecDepth 16384

namespace Cert.Proof

open Idealize.ShloMosaic Cert.KernelIdeal Cert.KernelIdeal.Gen Idealize.ShloMosaic.TcCoe
open Idealize.ShloMosaic.Pipeline (Dat)

variable (m : (ℓ : Loc nD τ sig) → Buf (Elt Ideal) ℓ)

/-- Point `t` reads and writes the `t`-th block of 512 rows; the weights and biases whole. -/
theorem idx : ∀ t : Fin cfg0.N, win0_0.index t = ![t.val, 0] ∧ win0_1.index t = ![0, 0] ∧ win0_2.index t = ![0, 0]
    ∧ win0_3.index t = ![0, 0] ∧ win0_4.index t = ![0, 0] ∧ win0_5.index t = ![t.val, 0] :=
  (by decide +kernel : ∀ t : Fin grid0.N, _)

/-- The row of the arrays that row `r` of block `t` is. -/
def tokenOf (t : Fin cfg0.N) (r : Fin 512) : Fin 16384 :=
  ⟨t.val * 512 + r.val, by have : t.val < 32 := t.isLt; omega⟩

/-- Window 0's block holds the rows of `x` of its tokens. -/
theorem read_x (c : Dev nD) (t : Fin cfg0.N) (r : Fin 512) (d : Fin 2048) :
    (iblk m c 0 t : Vec Ideal S512x2048 .f32) (ix2 r d) = m ((c.tc : Thread nD τ).loc main_arg0) (ix2 (tokenOf t r) d) := by
  unfold tokenOf
  blk_ext [iblk, V, idx t]

/-- The first weights, transposed before the launch. -/
theorem entry_W1 (c : Dev nD) : V m c main_call0_v0
    = (transpose S2048x256 [1, 0] (m ((c.tc : Thread nD τ).loc main_arg1) : Vec Ideal S256x2048 .f32)
        transposes_S256x2048_S2048x256_1_0 : Vec Ideal S2048x256 .f32) := by
  entry_read
  rfl

/-- The second weights, transposed before the launch. -/
theorem entry_W2 (c : Dev nD) : V m c main_call0_v1
    = (transpose S256x64 [1, 0] (m ((c.tc : Thread nD τ).loc main_arg3) : Vec Ideal S64x256 .f32)
        transposes_S64x256_S256x64_1_0 : Vec Ideal S256x64 .f32) := by
  entry_read
  rfl

/-- The first bias, as a row. -/
theorem entry_b1 (c : Dev nD) : V m c main_call0_v2
    = (shapeCast S1x256 (m ((c.tc : Thread nD τ).loc main_arg2) : Vec Ideal S256 .f32)
        shapeCasts_S256_S1x256 : Vec Ideal S1x256 .f32) := by
  entry_read
  rfl

/-- The second bias, as a row. -/
theorem entry_b2 (c : Dev nD) : V m c main_call0_v3
    = (shapeCast S1x64 (m ((c.tc : Thread nD τ).loc main_arg4) : Vec Ideal S64 .f32)
        shapeCasts_S64_S1x64 : Vec Ideal S1x64 .f32) := by
  entry_read
  rfl

/-- Window 1's block is the first weights, transposed. -/
theorem read_W1 (c : Dev nD) (t : Fin cfg0.N) (k : Fin 256) (d : Fin 2048) :
    (iblk m c 1 t : Vec Ideal S2048x256 .f32) (ix2 d k) = m ((c.tc : Thread nD τ).loc main_arg1) (ix2 k d) := by
  have e : (iblk m c 1 t : Vec Ideal S2048x256 .f32) (ix2 d k) = (V m c main_call0_v0 : Vec Ideal S2048x256 .f32) (ix2 d k) := by
    unfold iblk
    blk_ext [idx t]
  rw [e, entry_W1]
  pointwise

/-- Window 3's block is the second weights, transposed. -/
theorem read_W2 (c : Dev nD) (t : Fin cfg0.N) (j : Fin 64) (k : Fin 256) :
    (iblk m c 3 t : Vec Ideal S256x64 .f32) (ix2 k j) = m ((c.tc : Thread nD τ).loc main_arg3) (ix2 j k) := by
  have e : (iblk m c 3 t : Vec Ideal S256x64 .f32) (ix2 k j) = (V m c main_call0_v1 : Vec Ideal S256x64 .f32) (ix2 k j) := by
    unfold iblk
    blk_ext [idx t]
  rw [e, entry_W2]
  pointwise

/-- Window 2's block is the first bias. -/
theorem read_b1 (c : Dev nD) (t : Fin cfg0.N) (k : Fin 256) :
    (iblk m c 2 t : Vec Ideal S1x256 .f32) (ix2 0 k) = m ((c.tc : Thread nD τ).loc main_arg2) (ix1 k) := by
  have e : (iblk m c 2 t : Vec Ideal S1x256 .f32) (ix2 0 k) = (V m c main_call0_v2 : Vec Ideal S1x256 .f32) (ix2 0 k) := by
    unfold iblk
    blk_ext [idx t]
  rw [e, entry_b1]
  pointwise

/-- Window 4's block is the second bias. -/
theorem read_b2 (c : Dev nD) (t : Fin cfg0.N) (j : Fin 64) :
    (iblk m c 4 t : Vec Ideal S1x64 .f32) (ix2 0 j) = m ((c.tc : Thread nD τ).loc main_arg4) (ix1 j) := by
  have e : (iblk m c 4 t : Vec Ideal S1x64 .f32) (ix2 0 j) = (V m c main_call0_v3 : Vec Ideal S1x64 .f32) (ix2 0 j) := by
    unfold iblk
    blk_ext [idx t]
  rw [e, entry_b2]
  pointwise

/-- Row `r` of a block's logits is the logits of its token. -/
theorem block_logits (c : Dev nD) (t : Fin cfg0.N) (r : Fin 512) (j : Fin 64) :
    k0_pay2 (iblk m c 0 t) (iblk m c 1 t) (iblk m c 2 t) (iblk m c 3 t) (iblk m c 4 t) (ix2 r j)
      = tokenLogits (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg4)) (tokenOf t r) j := by
  rw [logits_at]
  unfold tokenLogits
  simp only [read_x, read_W1, read_b1, read_W2, read_b2]

/-- The arguments hold real numbers. -/
structure RealArgs (c : Dev nD) : Prop where
  x : ∀ i : S16384x2048.Idx, IsReal (m ((c.tc : Thread nD τ).loc main_arg0) i)
  W1 : ∀ i : S256x2048.Idx, IsReal (m ((c.tc : Thread nD τ).loc main_arg1) i)
  b1 : ∀ i : S256.Idx, IsReal (m ((c.tc : Thread nD τ).loc main_arg2) i)
  W2 : ∀ i : S64x256.Idx, IsReal (m ((c.tc : Thread nD τ).loc main_arg3) i)
  b2 : ∀ i : S64.Idx, IsReal (m ((c.tc : Thread nD τ).loc main_arg4) i)

/-- The result array after the launch, for real arguments: the gates of all tokens. -/
theorem final (c : Dev nD) (hm : RealArgs m c) : (dats m 0 c).arrAt 5 (cfgs 0).N
    = gates (m ((c.tc : Thread nD τ).loc main_arg0)) (m ((c.tc : Thread nD τ).loc main_arg1))
        (m ((c.tc : Thread nD τ).loc main_arg2)) (m ((c.tc : Thread nD τ).loc main_arg3))
        (m ((c.tc : Thread nD τ).loc main_arg4)) := by
  refine (dats m 0 c).arrAt_eq_of_covers 5 _ (by decide +kernel) fun t _ y => ?_
  blk_simp
  rw [after0_5, out_eq]
  frame_out
  obtain ⟨r, j, rfl⟩ : ∃ (r : Fin 512) (j : Fin 64), y = ix2 r j := ⟨y 0, y 1, eq_ix2 y⟩
  have hrow : ∀ k, IsReal (k0_pay2 (iblk m c 0 t) (iblk m c 1 t) (iblk m c 2 t) (iblk m c 3 t) (iblk m c 4 t) (ix2 r k)) :=
    fun k => block_logits m c t r k ▸ isReal_tokenLogits hm.x hm.W1 hm.b1 hm.W2 hm.b2 _ _
  have hplace : ((View.whole main_v0_0).slice (win0_5.rect t)).emb (ix2 r j) = ix2 (tokenOf t r) j := by
    unfold tokenOf
    blk_ext [idx t]
  rw [hplace]
  refine (gate_at _ r hrow j).trans ?_
  simp only [block_logits]
  rfl

end Cert.Proof
-- ==== Proof.Finite.lean ====
/- What the precondition says: every entry of every argument is a real number. -/
module

public import proofs.«01_k».proof.Defs
public import proofs.«01_k».proof.Proof.Consts
public import proofs.«01_k».proof.Proof.KernelArray
public import Idealize.ShloMosaic.Lib.Pointwise

@[expose] public section

namespace Cert.Proof

open Idealize.ShloMosaic Idealize.ShloMosaic.TcCoe

/-- The shape relations the precondition's operations take. -/
instance finiteFacts : Cert.Pre_finite.Facts where
  bcast_S_S16384x2048 := by decide
  bcast_S_S256x2048 := by decide
  bcast_S_S256 := by decide
  bcast_S_S64x256 := by decide
  bcast_S_S64 := by decide

/-- One argument of the precondition: `-∞ < a` and `a < ∞` at every place. -/
theorem isReal_of_bounds {s : Shape} (h : (⟨0, ![]⟩ : Shape).BroadcastsInDim s (![] : Fin 0 → Fin s.rank))
    {a : FVec Ideal s .f32}
    (e : andi (cmpf .ogt a (broadcastInDim s ![] h (constant (F := Ideal) ⟨0, ![]⟩ .f32 0xFF800000#32)))
      (cmpf .olt a (broadcastInDim s ![] h (constant (F := Ideal) ⟨0, ![]⟩ .f32 0x7F800000#32))) = fun _ => 1#1)
    (i : s.Idx) : IsReal (a i) := by
  have e' : BitVec.ofBool (decide (Ideal.ofBits .f32 0xFF800000#32 < a i))
      &&& BitVec.ofBool (decide (a i < Ideal.ofBits .f32 0x7F800000#32)) = 1#1 := congrFun e i
  rw [ofBits_negInf, ofBits_inf] at e'
  by_cases hb : ⊥ < a i <;> by_cases ht : a i < ⊤ <;> simp [hb, ht] at e'
  exact .of_lt hb ht

/-- Under the precondition the arguments hold real numbers. -/
theorem realArgs_of_finite {m : (ℓ : Loc Cert.KernelIdeal.nD Cert.KernelIdeal.τ Cert.KernelIdeal.sig) → Buf (Elt Ideal) ℓ}
    (h : Cert.Pre_KernelIdeal_finite m) (c : Dev Cert.KernelIdeal.nD) : RealArgs m c where
  x := isReal_of_bounds _ (h c).1
  W1 := isReal_of_bounds _ (h c).2.1
  b1 := isReal_of_bounds _ (h c).2.2.1
  W2 := isReal_of_bounds _ (h c).2.2.2.1
  b2 := isReal_of_bounds _ (h c).2.2.2.2

end Cert.Proof
-- ==== Proof.KernelRun.lean ====
/- The kernel's run: both results and the arguments at the end. -/
module

public import proofs.«01_k».proof.Proof.KernelArray

@[expose] public section

namespace Cert.Proof

open Idealize.ShloMosaic Cert.KernelIdeal Cert.KernelIdeal.Gen Idealize.ShloMosaic.TcCoe Idealize.SL.Sem

variable (m : (ℓ : Loc nD τ sig) → Buf (Elt Ideal) ℓ)

/-- The second result is written once, after the launch: zero. -/
theorem aux_zero (c : Dev nD) :
    Pipeline.afterTail₀ cfgs (dats m) 0 (V0 m) [hostOps1] c main_v0_1 = constant (F := Ideal) S_ .f32 0x00000000#32 := by
  unfold Pipeline.afterTail₀
  after_results_simp
  rfl

/-- For real arguments the kernel ends with the gates of all tokens, the zero, and its arguments unchanged. -/
theorem kernel_run (ρ : Dev nD → PrngReg) (hm : ∀ c, RealArgs m c) :
    θ_run defs (onTc (τ := τ) (main (F := Ideal))) ⟨m, fun _ => 0, ρ⟩ (fun r => ∀ c : Dev nD,
      r.2.mem ((c.tc : Thread nD τ).loc main_v0_0)
        = gates (m ((c.tc : Thread nD τ).loc main_arg0)) (m ((c.tc : Thread nD τ).loc main_arg1))
            (m ((c.tc : Thread nD τ).loc main_arg2)) (m ((c.tc : Thread nD τ).loc main_arg3))
            (m ((c.tc : Thread nD τ).loc main_arg4))
      ∧ r.2.mem ((c.tc : Thread nD τ).loc main_v0_1) = constant (F := Ideal) S_ .f32 0x00000000#32
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono
    (fun _ h c => ⟨((h.1 c).1 5).trans (final m c (hm c)),
      ((h.1 c).2 main_v0_1 (Pipeline.mem_restRefs_of main_v0_1 (by decide) (by decide))).trans (aux_zero m c), h.2 c⟩)
    (θ_run_and (run_main m ρ) (unchanged m ρ))

end Cert.Proof
-- ==== Proof.Reference.lean ====
/- What the reference computes: the same gates of all tokens. -/
module

public import proofs.«01_k».proof.Proof.Gen.ReferenceIdeal.Run
public import proofs.«01_k».proof.Proof.Consts
public import proofs.«01_k».proof.Proof.Spec
public import Idealize.ShloMosaic.Lib.Pointwise
public import Idealize.ShloMosaic.Lib.Routing.OpsPair
public import Idealize.ShloMosaic.Lib.ScatterToDense.RefScatter

@[expose] public section

set_option maxRecDepth 16384

namespace Cert.Proof

open Idealize.ShloMosaic Cert.ReferenceIdeal Cert.ReferenceIdeal.Gen Idealize.ShloMosaic.TcCoe

/-! ## The logits -/

/-- The reference's logits of all tokens. -/
noncomputable def refLogits (x : FVec Ideal S16384x2048 .f32) (W1 : FVec Ideal S256x2048 .f32) (b1 : FVec Ideal S256 .f32)
    (W2 : FVec Ideal S64x256 .f32) (b2 : FVec Ideal S64 .f32) : FVec Ideal S16384x64 .f32 :=
  let u : FVec Ideal S16384x256 .f32 :=
    addf (Host.dotGeneral dot_S16384x2048_S2048x256_S16384x256_1_0_0_1_n_n none x
        (transpose S2048x256 [1, 0] W1 transposes_S256x2048_S2048x256_1_0))
      (broadcastInDim S16384x256 ![0, 1] bcast_S1x256_S16384x256_0_1 (broadcastInDim S1x256 ![1] bcast_S256_S1x256_1 b1))
  let h : FVec Ideal S16384x256 .f32 :=
    mulf (mulf (broadcastInDim S16384x256 ![] bcast_S_S16384x256 (constant S_ .f32 0x3F000000#32)) u)
      (Host.erfc (Host.divf (Host.negf u)
        (broadcastInDim S16384x256 ![] bcast_S_S16384x256 (Host.sqrt (constant S_ .f32 0x40000000#32)))))
  addf (Host.dotGeneral dot_S16384x256_S256x64_S16384x64_1_0_0_1_n_n none h
      (transpose S256x64 [1, 0] W2 transposes_S64x256_S256x64_1_0))
    (broadcastInDim S16384x64 ![0, 1] bcast_S1x64_S16384x64_0_1 (broadcastInDim S1x64 ![1] bcast_S64_S1x64_1 b2))

/-- They are the logits of each token. -/
theorem refLogits_at (x : FVec Ideal S16384x2048 .f32) (W1 : FVec Ideal S256x2048 .f32) (b1 : FVec Ideal S256 .f32)
    (W2 : FVec Ideal S64x256 .f32) (b2 : FVec Ideal S64 .f32) (t : Fin 16384) (j : Fin 64) :
    refLogits x W1 b1 W2 b2 (ix2 t j) = tokenLogits x W1 b1 W2 b2 t j := by
  pointwise [refLogits, gelu_erfc]
  rfl

/-! ## The ranking -/

/-- The sort's comparison, as a Boolean. -/
theorem greater_eq (a b : EReal) : (FloatOps.cmpfTotal (F := Ideal) (φ := .f32) .gt a b == 1#1) = decide (b < a) := by
  show (BitVec.ofBool (decide (b < a)) == 1#1) = _
  cases decide (b < a) <;> rfl

/-- The sort of the rows of `x` by "greater than", with any companion: place `i` of row `t` comes from the
    position of rank `i`. -/
theorem sort_at {β : Type} (x : FVec Ideal S16384x64 .f32) (y : S16384x64.Idx → β) (t : Fin 16384) (i : Fin 64) :
    (Host.sort2 S16384x64 1 (fun l r => FloatOps.cmpfTotal (F := Ideal) .gt l.1 r.1) x y).1 (ix2 t i)
        = x (ix2 t (ranked (fun k => x (ix2 t k)) i))
      ∧ (Host.sort2 S16384x64 1 (fun l r => FloatOps.cmpfTotal (F := Ideal) .gt l.1 r.1) x y).2 (ix2 t i)
        = y (ix2 t (ranked (fun k => x (ix2 t k)) i)) := by
  have hd : 1 < S16384x64.rank := by decide
  have e : ∀ k : Fin 64, (ix2 t i : S16384x64.Idx).along (⟨1, hd⟩ : Fin S16384x64.rank) k = ix2 t k := fun k => by
    funext a
    fin_cases a <;> rfl
  have hπ : sortedFrom (n := 64) (fun k k' => FloatOps.cmpfTotal (F := Ideal) (φ := .f32) .gt
      (x ((ix2 t i : S16384x64.Idx).along (⟨1, hd⟩ : Fin S16384x64.rank) k))
      (x ((ix2 t i : S16384x64.Idx).along (⟨1, hd⟩ : Fin S16384x64.rank) k')) == 1#1) i
        = ranked (fun k => x (ix2 t k)) i := by
    rw [← sortedFrom_gt]
    congr 1
    funext k k'
    rw [greater_eq, e, e]
  unfold Host.sort2
  rw [dif_pos hd]
  exact ⟨(congrArg (fun k : Fin 64 => x ((ix2 t i : S16384x64.Idx).along (⟨1, hd⟩ : Fin S16384x64.rank) k)) hπ).trans
      (congrArg x (e _)),
    (congrArg (fun k : Fin 64 => y ((ix2 t i : S16384x64.Idx).along (⟨1, hd⟩ : Fin S16384x64.rank) k)) hπ).trans
      (congrArg y (e _))⟩

/-- The eight greatest of every row, with their positions. -/
noncomputable def topK (x : FVec Ideal S16384x64 .f32) : FVec Ideal S16384x8 .f32 × IVec S16384x8 32 :=
  Host.topK S16384x8 1 (FloatOps.cmpfTotal (F := Ideal) .gt) x sliceFits_S16384x64_S16384x8

/-- Value `i` of row `t` is the entry of rank `i`. -/
theorem topK_values (x : FVec Ideal S16384x64 .f32) (t : Fin 16384) (i : Fin 8) :
    (topK x).1 (ix2 t i) = x (ix2 t (top8 (fun k => x (ix2 t k)) i)) := by
  unfold topK Host.topK
  pointwise
  exact (sort_at x _ t (i.castLE (by decide))).1

/-- Position `i` of row `t` is the one of rank `i`. -/
theorem topK_positions (x : FVec Ideal S16384x64 .f32) (t : Fin 16384) (i : Fin 8) :
    (topK x).2 (ix2 t i) = BitVec.ofNat 32 (top8 (fun k => x (ix2 t k)) i).val := by
  unfold topK Host.topK
  pointwise
  exact (sort_at x _ t (i.castLE (by decide))).2

/-! ## The weights -/

/-- The reference's softmax over the eight values of a row. -/
noncomputable def softmax (v : FVec Ideal S16384x8 .f32) : FVec Ideal S16384x8 .f32 :=
  let e : FVec Ideal S16384x8 .f32 :=
    Host.exp (subf v (broadcastInDim S16384x8 ![0, 1] bcast_S16384x1_S16384x8_0_1
      (broadcastInDim S16384x1 ![0] bcast_S16384_S16384x1_0
        (maximumf (broadcastInDim S16384 ![] bcast_S_S16384 (constant S_ .f32 0xFF800000#32))
          (Host.reduce FloatOps.maximumf v (constant S_ .f32 0xFF800000#32) reducesTo_S16384x8_S16384_d1 h_S_)))))
  Host.divf e (broadcastInDim S16384x8 ![0, 1] bcast_S16384x1_S16384x8_0_1
    (broadcastInDim S16384x1 ![0] bcast_S16384_S16384x1_0
      (Host.reduceAdd e (constant S_ .f32 0x00000000#32) reducesTo_S16384x8_S16384_d1 h_S_)))

/-- Of the eight greatest values of a row, the softmax is the gate at their positions. -/
theorem softmax_at (v : FVec Ideal S16384x8 .f32) (ℓ : Fin 64 → EReal) (t : Fin 16384)
    (hv : ∀ i, v (ix2 t i) = ℓ (top8 ℓ i)) (i : Fin 8) : softmax v (ix2 t i) = gate ℓ (top8 ℓ i) := by
  rw [gate_top8]
  pointwise [softmax, ofBits_negInf, hv]
  rw [fold_max_top8, max_eq_right bot_le]
  rfl

/-! ## The scatter -/

/-- The pair (row, column) at which each of the eight values of a row goes. -/
def pairs (ind : IVec S16384x8 32) : IVec S16384x8x2 32 :=
  let rows : IVec S16384x1 32 := broadcastInDim S16384x1 ![0] bcast_S16384_S16384x1_0 (iotaInDim S16384 32 0)
  concatenate S16384x8x2 2
    [⟨S16384x8x1, broadcastInDim S16384x8x1 ![0, 1] bcast_S16384x8_S16384x8x1_0_1
        (broadcastInDim S16384x8 ![0, 1] bcast_S16384x1_S16384x8_0_1
          (select (cmpi .slt rows (broadcastInDim S16384x1 ![] bcast_S_S16384x1 (constantI S_ 32 0#32)))
            (addi rows (broadcastInDim S16384x1 ![] bcast_S_S16384x1 (constantI S_ 32 16384#32))) rows))⟩,
      ⟨S16384x8x1, broadcastInDim S16384x8x1 ![0, 1] bcast_S16384x8_S16384x8x1_0_1
        (select (cmpi .slt ind (broadcastInDim S16384x8 ![] bcast_S_S16384x8 (constantI S_ 32 0#32)))
          (addi ind (broadcastInDim S16384x8 ![] bcast_S_S16384x8 (constantI S_ 32 64#32))) ind)⟩]
    concatenates_S16384x8x1_S16384x8x1_S16384x8x2_d2

/-- The row of a pair is the token. -/
theorem pairs_row (ind : IVec S16384x8 32) (t : Fin 16384) (i : Fin 8) :
    pairs ind (ix3 t i 0) = BitVec.ofNat 32 t.val := by
  pointwise [pairs]
  refine Routing.wrap_of_lt _ _ ?_
  rw [BitVec.toNat_ofNat]
  have := t.isLt
  omega

/-- The column of a pair is the position. -/
theorem pairs_col (ind : IVec S16384x8 32) (t : Fin 16384) (i : Fin 8) (h : (ind (ix2 t i)).toNat < 64) :
    pairs ind (ix3 t i 1) = ind (ix2 t i) := by
  pointwise [pairs]
  exact Routing.wrap_of_lt _ _ (by omega)

/-- Zeros with the value of each pair's place written in it. -/
noncomputable def scattered (v : FVec Ideal S16384x8 .f32) (ind : IVec S16384x8 32) : FVec Ideal S16384x64 .f32 :=
  Host.scatter scatter_S16384x64_S16384x8x2_S16384x8_n_01_01_2 (fun _ b => b)
    (broadcastInDim S16384x64 ![] bcast_S_S16384x64 (constant S_ .f32 0x00000000#32)) (pairs ind) v

/-- A row into which the gates of the top eight are scattered at their positions is the row's gate. -/
theorem scattered_at (v : FVec Ideal S16384x8 .f32) (ind : IVec S16384x8 32) (ℓ : Fin 64 → EReal) (t : Fin 16384)
    (hind : ∀ t i, (ind (ix2 t i)).toNat < 64)
    (hpos : ∀ i, ind (ix2 t i) = BitVec.ofNat 32 (top8 ℓ i).val) (hv : ∀ i, v (ix2 t i) = gate ℓ (top8 ℓ i)) (j : Fin 64) :
    scattered v ind (ix2 t j) = gate ℓ j := by
  have hdense : scattered v ind (ix2 t j) = ScatterToDense.dense (by decide) ind v (0 : EReal) (ix2 t j) := by
    refine ScatterToDense.scatter_eq_dense (by decide) _ rfl rfl rfl (by decide) (by decide) _ _ _ _ _ _ ?_ ?_ ?_ ?_ _
    · intro ι
      exact (Ideal.ofBits_zero .f32 : Ideal.ofBits .f32 0x00000000#32 = 0)
    · exact fun i k => pairs_row ind i k
    · intro i k c _
      show c = (pairs ind (ix3 i k 1)).toNat ↔ c = (ind (ix2 i k)).toNat
      rw [pairs_col ind i k (hind i k)]
    · exact fun _ _ => rfl
  have hn : ∀ i, (ind (ix2 t i)).toNat = (top8 ℓ i).val := fun i => by
    rw [hpos, BitVec.toNat_ofNat]
    have := (top8 ℓ i).isLt
    omega
  rw [hdense]
  rcases ScatterToDense.dense_lastWinsU (by decide) ind v (0 : EReal) t j with ⟨i, hi, -, h⟩ | ⟨hno, h⟩
  · have hj : j = top8 ℓ i := Fin.ext (hi.trans (hn i))
    rw [hj] at h ⊢
    exact h.trans (hv i)
  · exact h.trans (gate_other ℓ j fun i hi => hno i ((congrArg Fin.val hi).symm.trans (hn i).symm)).symm

/-! ## The result -/

variable (m : (ℓ : Loc nD τ sig) → Buf (Elt Ideal) ℓ)

/-- The reference's result array, in the terms above. -/
theorem result_eq (c : Dev nD) :
    let L := refLogits (m ((c.tc : Thread nD τ).loc main_arg0)) (m ((c.tc : Thread nD τ).loc main_arg1))
      (m ((c.tc : Thread nD τ).loc main_arg2)) (m ((c.tc : Thread nD τ).loc main_arg3)) (m ((c.tc : Thread nD τ).loc main_arg4))
    Value.res_out0 m c = scattered (softmax (topK L).1) (topK L).2 := rfl

/-- The reference's first result is the gates of all tokens. -/
theorem reference_gates (c : Dev nD) : Value.res_out0 m c
    = gates (m ((c.tc : Thread nD τ).loc main_arg0)) (m ((c.tc : Thread nD τ).loc main_arg1))
        (m ((c.tc : Thread nD τ).loc main_arg2)) (m ((c.tc : Thread nD τ).loc main_arg3))
        (m ((c.tc : Thread nD τ).loc main_arg4)) := by
  rw [result_eq]
  funext y
  obtain ⟨t, j, rfl⟩ : ∃ (t : Fin 16384) (j : Fin 64), y = ix2 t j := ⟨y 0, y 1, eq_ix2 y⟩
  have hL := refLogits_at (m ((c.tc : Thread nD τ).loc main_arg0)) (m ((c.tc : Thread nD τ).loc main_arg1))
    (m ((c.tc : Thread nD τ).loc main_arg2)) (m ((c.tc : Thread nD τ).loc main_arg3)) (m ((c.tc : Thread nD τ).loc main_arg4))
  generalize refLogits _ _ _ _ _ = L at hL ⊢
  refine (scattered_at _ _ (fun k => L (ix2 t k)) t (fun t i => ?_) (topK_positions L t)
    (softmax_at _ _ t (topK_values L t)) j).trans ?_
  · rw [topK_positions, BitVec.toNat_ofNat]
    have := (top8 (fun k => L (ix2 t k)) i).isLt
    omega
  · simp only [hL]
    rfl

end Cert.Proof
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Finite
public import proofs.«01_k».proof.Proof.KernelRun
public import proofs.«01_k».proof.Proof.Reference
public import Idealize.ShloMosaic.Lib.Quiescent
public import Idealize.ShloMosaic.Adequacy
public import Idealize.ShloMosaic.Init

@[expose] public section

noncomputable section

namespace Cert.Proof

open Idealize.ShloMosaic Idealize.ShloMosaic.TcCoe Idealize.SL.Sem

/-- `1/√2` is what the kernel's named constant denotes over the extended reals. -/
theorem preserves : Cert.preserves_Kernel_KernelIdeal :=
  IdealRules.named_const.statement Cert.KernelIdeal.κ "root_half" .f32 0x3F3504F3#32 (((Real.sqrt 2)⁻¹ : ℝ) : EReal) rfl

/-- The reference leaves its arguments as they were: part of its run's conclusion. -/
theorem frame_reference : Cert.quiescent_ReferenceIdeal := fun m ρ _ =>
  (θ_run Cert.ReferenceIdeal.defs _ _).mono
    (fun r h => ⟨fun c => (h c).2.2, sem_eq_zero_of_no_sems (by decide) r.2⟩)
    (Cert.ReferenceIdeal.Value.run (F := Ideal) m ρ)

/-- On finite arguments kernel and reference end with the same gates and the same zero. -/
theorem algebraic : Cert.algebraic_KernelIdeal_ReferenceIdeal_pre_finite := fun m ρ m' ρ' hpre harg =>
  ⟨_, _, kernel_run m ρ (realArgs_of_finite hpre),
    (θ_run Cert.ReferenceIdeal.defs _ _).mono
      (fun r h c => ⟨(h c).1.trans ((reference_gates m' c).trans (by
          obtain ⟨h0, h1, h2, h3, h4⟩ := harg c
          rw [h0, h1, h2, h3, h4])), (h c).2⟩)
      (Cert.ReferenceIdeal.Value.run (F := Ideal) m' ρ')⟩

theorem claim : Cert.Claim :=
  ⟨Cert.Kernel.Gen.facts, Cert.KernelIdeal.Gen.facts, Cert.ReferenceIdeal.Gen.facts, finiteFacts,
    fun m ρ _ => Cert.Kernel.Gen.frame m ρ,
    fun m ρ _ => Cert.KernelIdeal.Gen.frame m ρ,
    fun m ρ _ => Cert.KernelIdeal.Gen.frame m ρ,
    frame_reference, fun m ρ _ => frame_reference m ρ trivial, preserves, algebraic⟩

end Cert.Proof

end
